-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_types_in_range [hPre_types_in_range : Cert.Pre_types_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_in_range [hPre_types_in_range : Cert.Pre_types_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_types_in_range [hKernelIdeal : Cert.KernelIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_types_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_types_in_range [hReferenceIdeal : Cert.ReferenceIdeal.Facts] [hPre_types_in_range : Cert.Pre_types_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_types_in_range [hKernelIdeal : Cert.KernelIdeal.Facts] [hReferenceIdeal : Cert.ReferenceIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_types_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_types_in_range : Cert.Pre_types_in_range.Facts),
    quiescent_Kernel (hKernel := hKernel)
    ∧ quiescent_KernelIdeal (hKernelIdeal := hKernelIdeal)
    ∧ quiescent_KernelIdeal_pre_types_in_range (hKernelIdeal := hKernelIdeal) (hPre_types_in_range := hPre_types_in_range)
    ∧ quiescent_ReferenceIdeal (hReferenceIdeal := hReferenceIdeal)
    ∧ quiescent_ReferenceIdeal_pre_types_in_range (hReferenceIdeal := hReferenceIdeal) (hPre_types_in_range := hPre_types_in_range)
    ∧ preserves_Kernel_KernelIdeal
    ∧ algebraic_KernelIdeal_ReferenceIdeal_pre_types_in_range (hKernelIdeal := hKernelIdeal) (hReferenceIdeal := hReferenceIdeal) (hPre_types_in_range := hPre_types_in_range)
-- ==== Pre_types_in_range.lean ====
abbrev S32x4096x3 : Shape := ⟨3, ![32, 4096, 3]⟩
abbrev S32x4096 : Shape := ⟨2, ![32, 4096]⟩
abbrev S4x256 : Shape := ⟨2, ![4, 256]⟩
abbrev S3x256 : Shape := ⟨2, ![3, 256]⟩
abbrev S256x256 : Shape := ⟨2, ![256, 256]⟩
abbrev S256x3 : Shape := ⟨2, ![256, 3]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel

variable [Facts]

def fn {F : FTy → Type} [FloatOps F] (main_arg0 : FVec F S32x4096x3 .f32) (main_arg1 : IVec S32x4096 32) (main_arg2 : FVec F S32x4096x3 .f32) (main_arg3 : FVec F S4x256 .f32) (main_arg4 : FVec F S3x256 .f32) (main_arg5 : FVec F S256x256 .f32) (main_arg6 : FVec F S256x3 .f32) : IVec S_ 1 :=
  let main_c : IVec S_ 32 := constantI S_ 32 0#32
  let main_v0 : IVec S32x4096 32 := broadcastInDim S32x4096 ![] bcast_S_S32x4096 main_c
  let main_v1 : IVec S32x4096 1 := cmpi .sge main_arg1 main_v0
  let main_c_0 : IVec S_ 32 := constantI S_ 32 2#32
  let main_v2 : IVec S32x4096 32 := broadcastInDim S32x4096 ![] bcast_S_S32x4096 main_c_0
  let main_v3 : IVec S32x4096 1 := cmpi .slt main_arg1 main_v2
  let main_v4 : IVec S32x4096 1 := andi main_v1 main_v3
  let main_c_1 : IVec S_ 1 := constantI S_ 1 1#1
  let main_v5 : IVec S_ 1 := (fun x v => Host.reduce IntOp.andi x v reducesTo_S32x4096_S_d0_1 h_S_) main_v4 main_c_1
  main_v5
-- ==== Kernel.lean ====
abbrev S32x4096x3 : Shape := ⟨3, ![32, 4096, 3]⟩
abbrev S32x4096 : Shape := ⟨2, ![32, 4096]⟩
abbrev S4x256 : Shape := ⟨2, ![4, 256]⟩
abbrev S3x256 : Shape := ⟨2, ![3, 256]⟩
abbrev S256x256 : Shape := ⟨2, ![256, 256]⟩
abbrev S256x3 : Shape := ⟨2, ![256, 3]⟩
abbrev S131072x3 : Shape := ⟨2, ![131072, 3]⟩
abbrev S131072x1 : Shape := ⟨2, ![131072, 1]⟩
abbrev S2048x3 : Shape := ⟨2, ![2048, 3]⟩
abbrev S2048x1 : Shape := ⟨2, ![2048, 1]⟩
abbrev S1x4 : Shape := ⟨2, ![1, 4]⟩
abbrev S2048x4 : Shape := ⟨2, ![2048, 4]⟩
abbrev S2048x256 : Shape := ⟨2, ![2048, 256]⟩
abbrev S_ : Shape := ⟨0, ![]⟩
abbrev S32x4096x1 : Shape := ⟨3, ![32, 4096, 1]⟩

abbrev nBuf : Space → Nat
  | .hbm => 19
  | .vmem => 16
  | .smem => 0
  | _ => 0

abbrev bufTy : (tb : Table) → Fin (tcTables nBuf tb) → BufTy
  | .hbm, ⟨0, _⟩ => ⟨S32x4096x3, .f32⟩
  | .hbm, ⟨1, _⟩ => ⟨S32x4096, .i32⟩
  | .hbm, ⟨2, _⟩ => ⟨S32x4096x3, .f32⟩
  | .hbm, ⟨3, _⟩ => ⟨S4x256, .f32⟩
  | .hbm, ⟨4, _⟩ => ⟨S3x256, .f32⟩
  | .hbm, ⟨5, _⟩ => ⟨S256x256, .f32⟩
  | .hbm, ⟨6, _⟩ => ⟨S256x3, .f32⟩
  | .hbm, ⟨7, _⟩ => ⟨S131072x3, .f32⟩
  | .hbm, ⟨8, _⟩ => ⟨S131072x3, .f32⟩
  | .hbm, ⟨9, _⟩ => ⟨S131072x1, .i32⟩
  | .hbm, ⟨10, _⟩ => ⟨S131072x3, .f32⟩
  | .hbm, ⟨11, _⟩ => ⟨S131072x3, .f32⟩
  | .hbm, ⟨12, _⟩ => ⟨S131072x1, .f32⟩
  | .hbm, ⟨13, _⟩ => ⟨S32x4096x3, .f32⟩
  | .hbm, ⟨14, _⟩ => ⟨S32x4096x3, .f32⟩
  | .hbm, ⟨15, _⟩ => ⟨S_, .f32⟩
  | .hbm, ⟨16, _⟩ => ⟨S131072x1, .f32⟩
  | .hbm, ⟨17, _⟩ => ⟨S131072x1, .i1⟩
  | .hbm, ⟨18, _⟩ => ⟨S32x4096x1, .i1⟩
  | .local _ .vmem, ⟨0, _⟩ => ⟨S2048x3, .f32⟩
  | .local _ .vmem, ⟨1, _⟩ => ⟨S2048x3, .f32⟩
  | .local _ .vmem, ⟨2, _⟩ => ⟨S2048x3, .f32⟩
  | .local _ .vmem, ⟨3, _⟩ => ⟨S2048x3, .f32⟩
  | .local _ .vmem, ⟨4, _⟩ => ⟨S2048x1, .i32⟩
  | .local _ .vmem, ⟨5, _⟩ => ⟨S2048x1, .i32⟩
  | .local _ .vmem, ⟨6, _⟩ => ⟨S3x256, .f32⟩
  | .local _ .vmem, ⟨7, _⟩ => ⟨S4x256, .f32⟩
  | .local _ .vmem, ⟨8, _⟩ => ⟨S256x256, .f32⟩
  | .local _ .vmem, ⟨9, _⟩ => ⟨S256x3, .f32⟩
  | .local _ .vmem, ⟨10, _⟩ => ⟨S2048x3, .f32⟩
  | .local _ .vmem, ⟨11, _⟩ => ⟨S2048x3, .f32⟩
  | .local _ .vmem, ⟨12, _⟩ => ⟨S2048x3, .f32⟩
  | .local _ .vmem, ⟨13, _⟩ => ⟨S2048x3, .f32⟩
  | .local _ .vmem, ⟨14, _⟩ => ⟨S2048x1, .f32⟩
  | .local _ .vmem, ⟨15, _⟩ => ⟨S2048x1, .f32⟩
  | _, _ => ⟨S32x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32x4096x3 : Shape := ⟨3, ![32, 4096, 3]⟩
abbrev S32x4096 : Shape := ⟨2, ![32, 4096]⟩
abbrev S4x256 : Shape := ⟨2, ![4, 256]⟩
abbrev S3x256 : Shape := ⟨2, ![3, 256]⟩
abbrev S256x256 : Shape := ⟨2, ![256, 256]⟩
abbrev S256x3 : Shape := ⟨2, ![256, 3]⟩
abbrev S4 : Shape := ⟨1, ![4]⟩
abbrev S_ : Shape := ⟨0, ![]⟩
abbrev S32x4096x1 : Shape := ⟨3, ![32, 4096, 1]⟩
abbrev S32x8192x3 : Shape := ⟨3, ![32, 8192, 3]⟩
abbrev S32x8192 : Shape := ⟨2, ![32, 8192]⟩
abbrev S32x8192x256 : Shape := ⟨3, ![32, 8192, 256]⟩
abbrev S32x8192x1 : Shape := ⟨3, ![32, 8192, 1]⟩

abbrev nBuf : Space → Nat
  | .hbm => 50
  | .vmem => 0
  | .smem => 0
  | _ => 0

abbrev bufTy : (tb : Table) → Fin (tcTables nBuf tb) → BufTy
  | .hbm, ⟨0, _⟩ => ⟨S32x4096x3, .f32⟩
  | .hbm, ⟨1, _⟩ => ⟨S32x4096, .i32⟩
  | .hbm, ⟨2, _⟩ => ⟨S32x4096x3, .f32⟩
  | .hbm, ⟨3, _⟩ => ⟨S4x256, .f32⟩
  | .hbm, ⟨4, _⟩ => ⟨S3x256, .f32⟩
  | .hbm, ⟨5, _⟩ => ⟨S256x256, .f32⟩
  | .hbm, ⟨6, _⟩ => ⟨S256x3, .f32⟩
  | .hbm, ⟨7, _⟩ => ⟨S4, .f32⟩
  | .hbm, ⟨8, _⟩ => ⟨S_, .i32⟩
  | .hbm, ⟨9, _⟩ => ⟨S32x4096, .i32⟩
  | .hbm, ⟨10, _⟩ => ⟨S32x4096, .i1⟩
  | .hbm, ⟨11, _⟩ => ⟨S_, .i32⟩
  | .hbm, ⟨12, _⟩ => ⟨S32x4096, .i32⟩
  | .hbm, ⟨13, _⟩ => ⟨S32x4096, .i32⟩
  | .hbm, ⟨14, _⟩ => ⟨S32x4096, .i32⟩
  | .hbm, ⟨15, _⟩ => ⟨S32x4096x1, .i32⟩
  | .hbm, ⟨16, _⟩ => ⟨S32x4096, .f32⟩
  | .hbm, ⟨17, _⟩ => ⟨S32x4096x1, .f32⟩
  | .hbm, ⟨18, _⟩ => ⟨S32x4096x3, .f32⟩
  | .hbm, ⟨19, _⟩ => ⟨S32x4096x3, .f32⟩
  | .hbm, ⟨20, _⟩ => ⟨S32x4096x3, .f32⟩
  | .hbm, ⟨21, _⟩ => ⟨S32x8192x3, .f32⟩
  | .hbm, ⟨22, _⟩ => ⟨S_, .i32⟩
  | .hbm, ⟨23, _⟩ => ⟨S32x4096, .i32⟩
  | .hbm, ⟨24, _⟩ => ⟨S32x4096, .i32⟩
  | .hbm, ⟨25, _⟩ => ⟨S32x8192, .i32⟩
  | .hbm, ⟨26, _⟩ => ⟨S32x8192x256, .f32⟩
  | .hbm, ⟨27, _⟩ => ⟨S_, .i32⟩
  | .hbm, ⟨28, _⟩ => ⟨S32x8192, .i32⟩
  | .hbm, ⟨29, _⟩ => ⟨S32x8192, .i1⟩
  | .hbm, ⟨30, _⟩ => ⟨S_, .i32⟩
  | .hbm, ⟨31, _⟩ => ⟨S32x8192, .i32⟩
  | .hbm, ⟨32, _⟩ => ⟨S32x8192, .i32⟩
  | .hbm, ⟨33, _⟩ => ⟨S32x8192, .i32⟩
  | .hbm, ⟨34, _⟩ => ⟨S32x8192x1, .i32⟩
  | .hbm, ⟨35, _⟩ => ⟨S32x8192x256, .f32⟩
  | .hbm, ⟨36, _⟩ => ⟨S32x8192x256, .f32⟩
  | .hbm, ⟨37, _⟩ => ⟨S32x8192x256, .f32⟩
  | .hbm, ⟨38, _⟩ => ⟨S32x8192x256, .f32⟩
  | .hbm, ⟨39, _⟩ => ⟨S32x8192x256, .f32⟩
  | .hbm, ⟨40, _⟩ => ⟨S32x8192x3, .f32⟩
  | .hbm, ⟨41, _⟩ => ⟨S32x4096x3, .f32⟩
  | .hbm, ⟨42, _⟩ => ⟨S32x4096x3, .f32⟩
  | .hbm, ⟨43, _⟩ => ⟨S32x4096x3, .f32⟩
  | .hbm, ⟨44, _⟩ => ⟨S32x4096x3, .f32⟩
  | .hbm, ⟨45, _⟩ => ⟨S32x4096x3, .f32⟩
  | .hbm, ⟨46, _⟩ => ⟨S32x4096x3, .f32⟩
  | .hbm, ⟨47, _⟩ => ⟨S_, .f32⟩
  | .hbm, ⟨48, _⟩ => ⟨S32x4096x1, .f32⟩
  | .hbm, ⟨49, _⟩ => ⟨S32x4096x1, .i1⟩
  | _, _ => ⟨S32x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Row.lean ====
/- One atom at a time: the functions of one atom's data in which both programs' results are stated.
   Everything here is over the extended reals and over plain functions of indices. -/
module

public import Idealize.ShloMosaic.Lib.Claim
public import Idealize.ShloMosaic.Lib.Pipeline.ValueKit

@[expose] public section

set_option maxRecDepth 16384

noncomputable section

namespace Cert.Row

open Idealize.ShloMosaic

/-- The one-hot entry of type word `a` at place `t`: 1 where the word is `t`, 0 elsewhere. -/
def hot (a : BitVec 32) (t : ℕ) : EReal := if a = BitVec.ofNat 32 t then 1 else 0

/-- The length of the virtual displacement of an atom of type word `a`: the two nonzero table entries, each taken
    where the type is its place, so 0 for every other word. -/
def scale (a : BitVec 32) : EReal :=
  hot a 0 * Ideal.ofBits .f32 0x3E99999A#32 + hot a 1 * Ideal.ofBits .f32 0x3EB33333#32

/-- The row of the embedding table that the one-hot row of the word `a` picks. -/
def embed (te : (⟨2, ![4, 256]⟩ : Shape).Idx → EReal) (a : BitVec 32) (g : Fin 256) : EReal :=
  ∑ t : Fin 4, hot a t.val * te (ix2 t g)

/-- The backbone on one row: position `x` and type embedding `e` to output `k`. -/
def net (w1 : (⟨2, ![3, 256]⟩ : Shape).Idx → EReal) (w2 : (⟨2, ![256, 256]⟩ : Shape).Idx → EReal)
    (w3 : (⟨2, ![256, 3]⟩ : Shape).Idx → EReal) (x : Fin 3 → EReal) (e : Fin 256 → EReal) (k : Fin 3) : EReal :=
  ∑ h : Fin 256, Ideal.tanh (∑ g : Fin 256, Ideal.tanh (∑ d : Fin 3, x d * w1 (ix2 d g) + e g) * w2 (ix2 g h))
    * w3 (ix2 h k)

/-- The widened bit of an equality of words, converted to a float, is 1 where they are equal and 0 elsewhere. -/
theorem bit_eq (a b : BitVec 32) :
    (FloatOps.sitofp (F := Ideal) .f32 (BitVec.setWidth 32 (IntOp.cmpi .eq a b)) : EReal) = if a = b then 1 else 0 := by
  by_cases h : a = b
  · subst h
    simp [IntOp.cmpi, FloatOps.sitofp]
  · have hb : (a == b) = false := by simp [h]
    simp [IntOp.cmpi, h, hb, FloatOps.sitofp]

/-- The same where the second word is that of a place: the one-hot entry. -/
theorem bit_hot (a : BitVec 32) (t : ℕ) :
    (FloatOps.sitofp (F := Ideal) .f32 (BitVec.setWidth 32 (IntOp.cmpi .eq a (BitVec.ofNat 32 t))) : EReal) = hot a t :=
  bit_eq a _

/-- The table lookup summed entry by entry, its two zero entries included, is the scale. -/
theorem scale_sum (a : BitVec 32) :
    (FloatOps.sitofp (F := Ideal) .f32 (BitVec.setWidth 32 (IntOp.cmpi .eq a 0#32)) : EReal) * Ideal.ofBits .f32 0x3E99999A#32
      + (FloatOps.sitofp (F := Ideal) .f32 (BitVec.setWidth 32 (IntOp.cmpi .eq a 1#32)) : EReal) * Ideal.ofBits .f32 0x3EB33333#32
      + (FloatOps.sitofp (F := Ideal) .f32 (BitVec.setWidth 32 (IntOp.cmpi .eq a 2#32)) : EReal) * 0
      + (FloatOps.sitofp (F := Ideal) .f32 (BitVec.setWidth 32 (IntOp.cmpi .eq a 3#32)) : EReal) * 0 = scale a := by
  rw [bit_eq, bit_eq, bit_eq, bit_eq, mul_zero, mul_zero, add_zero, add_zero]
  rfl

/-- A word that is `n`, one of the four places, has its one-hot row at `n`. -/
theorem hot_ofNat (n t : Fin 4) : hot (BitVec.ofNat 32 n.val) t.val = if t = n then 1 else 0 := by
  revert n t
  simp only [hot]
  have : ∀ n t : Fin 4, (BitVec.ofNat 32 n.val = BitVec.ofNat 32 t.val) ↔ t = n := by decide
  intro n t
  simp only [this]

/-- The embedding picked by the word of `n` is row `n` of the table. -/
theorem embed_ofNat (te : (⟨2, ![4, 256]⟩ : Shape).Idx → EReal) (n : Fin 4) (g : Fin 256) :
    embed te (BitVec.ofNat 32 n.val) g = te (ix2 n g) := by
  simp only [embed, hot_ofNat, ite_mul, one_mul, zero_mul, Finset.sum_ite_eq', Finset.mem_univ, if_true]

/-- The scale of type 0 is the table's first entry. -/
theorem scale_zero : scale 0#32 = Ideal.ofBits .f32 0x3E99999A#32 := by
  simp [scale, hot]

/-- The scale of type 1 is the table's second entry. -/
theorem scale_one : scale 1#32 = Ideal.ofBits .f32 0x3EB33333#32 := by
  simp [scale, hot]

end Cert.Row

end
-- ==== Proof.Blocks.lean ====
/- The region's three result arrays after the last grid point, over the arrays that the region finds at its entry: each
   block of rows is written by one point, and row `r` of a block by the functions of one atom (Row.lean) at that row. -/
module

public import proofs.«01_k».proof.Defs
public import proofs.«01_k».proof.Proof.Gen.KernelIdeal.Frame
public import proofs.«01_k».proof.Proof.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- At grid point `t` the row arrays are at their block `t`, and the weights at their only block. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

/-- The first result by rows: the backbone's output for the real atom plus its output for the virtual one. -/
abbrev rowsReal (C S : FVec Ideal S131072x3 .f32) (A : IVec S131072x1 32) (W1 : FVec Ideal S3x256 .f32)
    (T : FVec Ideal S4x256 .f32) (W2 : FVec Ideal S256x256 .f32) (W3 : FVec Ideal S256x3 .f32) : FVec Ideal S131072x3 .f32 :=
  fun i => Row.net W1 W2 W3 (fun d => C (ix2 (i 0) d)) (Row.embed T (A (ix2 (i 0) 0))) (i 1)
    + Row.net W1 W2 W3 (fun d => C (ix2 (i 0) d) + S (ix2 (i 0) d) * Row.scale (A (ix2 (i 0) 0)))
        (Row.embed T (IntOp.addi (A (ix2 (i 0) 0)) 2#32)) (i 1)

/-- The second result by rows: the backbone's output for the virtual atom times the atom's scale. -/
abbrev rowsMag (C S : FVec Ideal S131072x3 .f32) (A : IVec S131072x1 32) (W1 : FVec Ideal S3x256 .f32)
    (T : FVec Ideal S4x256 .f32) (W2 : FVec Ideal S256x256 .f32) (W3 : FVec Ideal S256x3 .f32) : FVec Ideal S131072x3 .f32 :=
  fun i => Row.net W1 W2 W3 (fun d => C (ix2 (i 0) d) + S (ix2 (i 0) d) * Row.scale (A (ix2 (i 0) 0)))
        (Row.embed T (IntOp.addi (A (ix2 (i 0) 0)) 2#32)) (i 1) * Row.scale (A (ix2 (i 0) 0))

/-- The third array by rows: the atom's scale. -/
abbrev rowsScale (A : IVec S131072x1 32) : FVec Ideal S131072x1 .f32 :=
  fun i => Row.scale (A (ix2 (i 0) 0))

variable (m : (ℓ : Loc nD τ sig) → Buf (Elt Ideal) ℓ)

/-- The scale that the body computes for row `r` of a block is the scale of the row's type word. -/
theorem scale_at (a : Vec Ideal S2048x1 .i32) (r : Fin 2048) :
    k0_pay1 (F := Ideal) (k0_pay10 a) (k0_pay11 a) (ix2 r 0) = Row.scale (a (ix2 r 0)) := by
  pointwise [k0_pay10, k0_pay1, k0_pay11, k0_pay7]
  exact Row.scale_sum _

/-- The same at any index of the block: its second coordinate is 0. -/
theorem scale_idx (a : Vec Ideal S2048x1 .i32) (y : S2048x1.Idx) :
    k0_pay1 (F := Ideal) (k0_pay10 a) (k0_pay11 a) y = Row.scale (a (ix2 (y 0) 0)) := by
  idx_vars y
  obtain rfl : y1 = 0 := Subsingleton.elim _ _
  exact scale_at a y0

/-- The third result array of the region. -/
theorem final9 (c : Dev nD) : (dats m 0 c).arrAt 9 (cfgs 0).N = rowsScale (V m c main_v2) := by
  refine (dats m 0 c).arrAt_eq_of_covers 9 _ (by decide +kernel) fun t _ y => ?_
  blk_simp
  rw [after0_9]
  frame_out
  unfold k0_pay15 k0_pay16
  rw [scale_idx]
  pointwise [rowsScale]
  blk_point [iblk, idx t]

/-- The second result array of the region. -/
theorem final8 (c : Dev nD) : (dats m 0 c).arrAt 8 (cfgs 0).N
    = rowsMag (V m c main_v0) (V m c main_v1) (V m c main_v2) (V m c main_arg4) (V m c main_arg3) (V m c main_arg5)
        (V m c main_arg6) := by
  refine (dats m 0 c).arrAt_eq_of_covers 8 _ (by decide +kernel) fun t _ y => ?_
  blk_simp
  rw [after0_8]
  frame_out
  pointwise [k0_pay2, k0_pay4, k0_pay5, k0_pay6, k0_pay9, k0_pay7, k0_pay12, k0_pay13, k0_pay14,
    k0_pay15, k0_pay16, rowsMag, Row.net, Row.embed, Row.bit_hot, scale_at]
  blk_point [iblk, idx t]

/-- The first result array of the region. -/
theorem final7 (c : Dev nD) : (dats m 0 c).arrAt 7 (cfgs 0).N
    = rowsReal (V m c main_v0) (V m c main_v1) (V m c main_v2) (V m c main_arg4) (V m c main_arg3) (V m c main_arg5)
        (V m c main_arg6) := by
  refine (dats m 0 c).arrAt_eq_of_covers 7 _ (by decide +kernel) fun t _ y => ?_
  blk_simp
  rw [after0_7]
  frame_out
  pointwise [k0_pay2, k0_pay3, k0_pay5, k0_pay6, k0_pay8, k0_pay9, k0_pay7, k0_pay12, k0_pay13, k0_pay14,
    k0_pay15, k0_pay16, rowsReal, Row.net, Row.embed, Row.bit_hot, scale_at]
  blk_point [iblk, idx t]

end Cert.KernelIdeal.Value

end
-- ==== Proof.Results.lean ====
/- The kernel's results at an index: the region's result arrays (Blocks.lean) read through the reshapes before and after
   the region, down to one atom's functions (Row.lean). -/
module

public import proofs.«01_k».proof.Defs
public import proofs.«01_k».proof.Proof.Blocks

@[expose] public section

set_option maxRecDepth 16384

noncomputable section

open Idealize.ShloMosaic Idealize.ShloMosaic.TcCoe Idealize.SL.Sem

namespace Cert.KernelIdeal.Value

open Cert.KernelIdeal Cert.KernelIdeal.Gen

/-- Position `(i, j)` of the first two axes, as one row of the flattened array. -/
abbrev flat (i : Fin 32) (j : Fin 4096) : Fin 131072 := ⟨i.val * 4096 + j.val, by omega⟩

/-- A flattened array of triples at atom `(i, j)`'s row. -/
theorem flat3 {α : Type} (C : S32x4096x3.Idx → α) (i : Fin 32) (j : Fin 4096) (d : Fin 3) :
    shapeCast S131072x3 C shapeCasts_S32x4096x3_S131072x3 (ix2 (flat i j) d) = C (ix3 i j d) := by
  pointwise []
  blk_ext []

/-- A flattened array of single entries at atom `(i, j)`'s row. -/
theorem flat1 {α : Type} (A : S32x4096.Idx → α) (i : Fin 32) (j : Fin 4096) :
    shapeCast S131072x1 A shapeCasts_S32x4096_S131072x1 (ix2 (flat i j) 0) = A (ix2 i j) := by
  pointwise []
  blk_ext []

/-- An array of rows of triples, unflattened, at atom `(i, j)`. -/
theorem unflat3 {α : Type} (X : S131072x3.Idx → α) (i : Fin 32) (j : Fin 4096) (d : Fin 3) :
    shapeCast S32x4096x3 X shapeCasts_S131072x3_S32x4096x3 (ix3 i j d) = X (ix2 (flat i j) d) := by
  pointwise []

/-- An array of rows of single entries, unflattened, at atom `(i, j)`. -/
theorem unflat1 {α : Type} (X : S131072x1.Idx → α) (i : Fin 32) (j : Fin 4096) :
    shapeCast S32x4096x1 X shapeCasts_S131072x1_S32x4096x1 (ix3 i j 0) = X (ix2 (flat i j) 0) := by
  pointwise []

/-- The first result over flattened arguments, unflattened, at `(i, j, k)`. -/
theorem real_at (C S : FVec Ideal S32x4096x3 .f32) (A : IVec S32x4096 32) (W1 : FVec Ideal S3x256 .f32)
    (T : FVec Ideal S4x256 .f32) (W2 : FVec Ideal S256x256 .f32) (W3 : FVec Ideal S256x3 .f32) (i : Fin 32) (j : Fin 4096) (k : Fin 3) :
    shapeCast S32x4096x3 (rowsReal (shapeCast S131072x3 C shapeCasts_S32x4096x3_S131072x3)
        (shapeCast S131072x3 S shapeCasts_S32x4096x3_S131072x3) (shapeCast S131072x1 A shapeCasts_S32x4096_S131072x1) W1 T W2 W3)
      shapeCasts_S131072x3_S32x4096x3 (ix3 i j k)
      = Row.net W1 W2 W3 (fun d => C (ix3 i j d)) (Row.embed T (A (ix2 i j))) k
        + Row.net W1 W2 W3 (fun d => C (ix3 i j d) + S (ix3 i j d) * Row.scale (A (ix2 i j)))
          (Row.embed T (IntOp.addi (A (ix2 i j)) 2#32)) k := by
  rw [unflat3]
  simp only [← flat3 C i j, ← flat3 S i j, ← flat1 A i j]
  rfl

/-- The second result over flattened arguments, unflattened, at `(i, j, k)`. -/
theorem mag_at (C S : FVec Ideal S32x4096x3 .f32) (A : IVec S32x4096 32) (W1 : FVec Ideal S3x256 .f32)
    (T : FVec Ideal S4x256 .f32) (W2 : FVec Ideal S256x256 .f32) (W3 : FVec Ideal S256x3 .f32) (i : Fin 32) (j : Fin 4096) (k : Fin 3) :
    shapeCast S32x4096x3 (rowsMag (shapeCast S131072x3 C shapeCasts_S32x4096x3_S131072x3)
        (shapeCast S131072x3 S shapeCasts_S32x4096x3_S131072x3) (shapeCast S131072x1 A shapeCasts_S32x4096_S131072x1) W1 T W2 W3)
      shapeCasts_S131072x3_S32x4096x3 (ix3 i j k)
      = Row.net W1 W2 W3 (fun d => C (ix3 i j d) + S (ix3 i j d) * Row.scale (A (ix2 i j)))
          (Row.embed T (IntOp.addi (A (ix2 i j)) 2#32)) k * Row.scale (A (ix2 i j)) := by
  rw [unflat3]
  simp only [← flat3 C i j, ← flat3 S i j, ← flat1 A i j]
  rfl

/-- The third result over flattened arguments, unflattened, at `(i, j, 0)`. -/
theorem mask_at (A : IVec S32x4096 32) (i : Fin 32) (j : Fin 4096) :
    shapeCast S32x4096x1 (cmpf .ogt (rowsScale (shapeCast S131072x1 A shapeCasts_S32x4096_S131072x1))
        (broadcastInDim S131072x1 ![] bcast_S_S131072x1 (constant S_ .f32 0#32)))
      shapeCasts_S131072x1_S32x4096x1 (ix3 i j 0)
      = FloatOps.cmpf (F := Ideal) (φ := .f32) .ogt (Row.scale (A (ix2 i j))) 0 := by
  have hz : broadcastInDim S131072x1 ![] bcast_S_S131072x1 (constant (F := Ideal) S_ .f32 0#32) (ix2 (flat i j) 0) = 0 := by
    pointwise []
  rw [unflat1, ← flat1 A i j, ← hz]
  rfl

variable (m : (ℓ : Loc nD τ sig) → Buf (Elt Ideal) ℓ)

/-- The lines after the region leave in `main_v4` the region's first result array, unflattened. -/
theorem tail4 (c : Dev nD) : Pipeline.afterTail₀ cfgs (dats m) 0 (V0 m) [hostOps1] c main_v4
    = shapeCast S32x4096x3 ((dats m 0 c).arrAt 7 (cfgs 0).N) shapeCasts_S131072x3_S32x4096x3 := by
  unfold Pipeline.afterTail₀
  simp only [hostOps1, List.flatten_cons, List.flatten_nil, List.append_nil, List.cons_append, List.nil_append]
  after_results_simp
  have h := Pipeline.withArrays_arr (cfgs 0).spec (by decide) c (V0 m c) (fun w => (dats m 0 c).arrAt w (cfgs 0).N) 7
  exact congrArg (fun X => shapeCast S32x4096x3 X shapeCasts_S131072x3_S32x4096x3) h

/-- The lines after the region leave in `main_v5` the region's second result array, unflattened. -/
theorem tail5 (c : Dev nD) : Pipeline.afterTail₀ cfgs (dats m) 0 (V0 m) [hostOps1] c main_v5
    = shapeCast S32x4096x3 ((dats m 0 c).arrAt 8 (cfgs 0).N) shapeCasts_S131072x3_S32x4096x3 := by
  unfold Pipeline.afterTail₀
  simp only [hostOps1, List.flatten_cons, List.flatten_nil, List.append_nil, List.cons_append, List.nil_append]
  after_results_simp
  have h := Pipeline.withArrays_arr (cfgs 0).spec (by decide) c (V0 m c) (fun w => (dats m 0 c).arrAt w (cfgs 0).N) 8
  exact congrArg (fun X => shapeCast S32x4096x3 X shapeCasts_S131072x3_S32x4096x3) h

/-- The lines after the region leave in `main_v8` whether the region's third result array is above 0, unflattened. -/
theorem tail8 (c : Dev nD) : Pipeline.afterTail₀ cfgs (dats m) 0 (V0 m) [hostOps1] c main_v8
    = shapeCast S32x4096x1 (cmpf .ogt (show FVec Ideal S131072x1 .f32 from (dats m 0 c).arrAt 9 (cfgs 0).N)
        (broadcastInDim S131072x1 ![] bcast_S_S131072x1 (constant S_ .f32 0#32))) shapeCasts_S131072x1_S32x4096x1 := by
  unfold Pipeline.afterTail₀
  simp only [hostOps1, List.flatten_cons, List.flatten_nil, List.append_nil, List.cons_append, List.nil_append]
  after_results_simp
  have h := Pipeline.withArrays_arr (cfgs 0).spec (by decide) c (V0 m c) (fun w => (dats m 0 c).arrAt w (cfgs 0).N) 9
  exact congrArg (fun X : FVec Ideal S131072x1 .f32 => shapeCast S32x4096x1 (cmpf .ogt X
    (broadcastInDim S131072x1 ![] bcast_S_S131072x1 (constant S_ .f32 0#32))) shapeCasts_S131072x1_S32x4096x1) h

/-- The region finds the positions flattened. -/
theorem entry0 (c : Dev nD) : V m c main_v0
    = shapeCast S131072x3 (m ((c : Thread nD τ).loc main_arg0)) shapeCasts_S32x4096x3_S131072x3 := by
  entry_read
  rfl

/-- The region finds the spins flattened. -/
theorem entry1 (c : Dev nD) : V m c main_v1
    = shapeCast S131072x3 (m ((c : Thread nD τ).loc main_arg2)) shapeCasts_S32x4096x3_S131072x3 := by
  entry_read
  rfl

/-- The region finds the type words flattened. -/
theorem entry2 (c : Dev nD) : V m c main_v2
    = shapeCast S131072x1 (m ((c : Thread nD τ).loc main_arg1)) shapeCasts_S32x4096_S131072x1 := by
  entry_read
  rfl

/-- The kernel's first result, over its arguments. -/
theorem out4 (c : Dev nD) : Pipeline.afterTail₀ cfgs (dats m) 0 (V0 m) [hostOps1] c main_v4
    = shapeCast S32x4096x3 (rowsReal (shapeCast S131072x3 (m ((c : Thread nD τ).loc main_arg0)) shapeCasts_S32x4096x3_S131072x3)
        (shapeCast S131072x3 (m ((c : Thread nD τ).loc main_arg2)) shapeCasts_S32x4096x3_S131072x3)
        (shapeCast S131072x1 (m ((c : Thread nD τ).loc main_arg1)) shapeCasts_S32x4096_S131072x1)
        (m ((c : Thread nD τ).loc main_arg4)) (m ((c : Thread nD τ).loc main_arg3))
        (m ((c : Thread nD τ).loc main_arg5)) (m ((c : Thread nD τ).loc main_arg6)))
      shapeCasts_S131072x3_S32x4096x3 := by
  rw [tail4, final7, entry0, entry1, entry2, V_main_arg4, V_main_arg3, V_main_arg5, V_main_arg6]

/-- The kernel's second result, over its arguments. -/
theorem out5 (c : Dev nD) : Pipeline.afterTail₀ cfgs (dats m) 0 (V0 m) [hostOps1] c main_v5
    = shapeCast S32x4096x3 (rowsMag (shapeCast S131072x3 (m ((c : Thread nD τ).loc main_arg0)) shapeCasts_S32x4096x3_S131072x3)
        (shapeCast S131072x3 (m ((c : Thread nD τ).loc main_arg2)) shapeCasts_S32x4096x3_S131072x3)
        (shapeCast S131072x1 (m ((c : Thread nD τ).loc main_arg1)) shapeCasts_S32x4096_S131072x1)
        (m ((c : Thread nD τ).loc main_arg4)) (m ((c : Thread nD τ).loc main_arg3))
        (m ((c : Thread nD τ).loc main_arg5)) (m ((c : Thread nD τ).loc main_arg6)))
      shapeCasts_S131072x3_S32x4096x3 := by
  rw [tail5, final8, entry0, entry1, entry2, V_main_arg4, V_main_arg3, V_main_arg5, V_main_arg6]

/-- The kernel's third result, over its arguments. -/
theorem out8 (c : Dev nD) : Pipeline.afterTail₀ cfgs (dats m) 0 (V0 m) [hostOps1] c main_v8
    = shapeCast S32x4096x1 (cmpf .ogt
        (rowsScale (shapeCast S131072x1 (m ((c : Thread nD τ).loc main_arg1)) shapeCasts_S32x4096_S131072x1))
        (broadcastInDim S131072x1 ![] bcast_S_S131072x1 (constant S_ .f32 0#32))) shapeCasts_S131072x1_S32x4096x1 := by
  rw [tail8, final9, entry2]

end Cert.KernelIdeal.Value

end
-- ==== Proof.Ref.lean ====
/- The reference's results at an index: the printed program's terms, read down to one atom's functions (Row.lean),
   for type words that are 0 or 1. -/
module

public import proofs.«01_k».proof.Defs
public import proofs.«01_k».proof.Proof.Gen.ReferenceIdeal.Run
public import proofs.«01_k».proof.Proof.Row
public import Idealize.ShloMosaic.Lib.ValueIdxCore
public import Idealize.ShloMosaic.Lib.Pointwise.IndexBridge

@[expose] public section

set_option maxRecDepth 16384

noncomputable section

open Idealize.ShloMosaic Idealize.ShloMosaic.TcCoe Idealize.SL.Sem

namespace Cert.ReferenceIdeal.At

open Cert.ReferenceIdeal Cert.ReferenceIdeal.Gen

/-- A word that is one of the four places, read as a start index of an axis of extent 4, is that place. -/
theorem start_ofNat : ∀ n : Fin 4, min (BitVec.ofNat 32 n.val).toInt.toNat (4 - 1) = n.val := by decide

/-- The wrap of negative indices leaves a word that is one of the four places alone. -/
theorem wrap_ofNat : ∀ n : Fin 4,
    Scalar.select (IntOp.cmpi .slt (BitVec.ofNat 32 n.val) 0#32) (IntOp.addi (BitVec.ofNat 32 n.val) 4#32)
      (BitVec.ofNat 32 n.val) = BitVec.ofNat 32 n.val := by decide

/-- The lookup in a table of four entries, at a start index that is the word of `n`, is entry `n`. -/
theorem gather_entry {α : Type} (x : S4.Idx → α) (idx : IVec S32x4096x1 32) (i : Fin 32) (j : Fin 4096) (n : Fin 4)
    (h : idx (ix3 i j 0) = BitVec.ofNat 32 n.val) :
    Host.gather gather_S4_S32x4096x1_S32x4096_n_0_n_n_0_2_1 x idx (ix2 i j) = x (ix1 n) := by
  refine (ValueIdx.gather_take_apply (by decide) Facts₀.gather_S4_S32x4096x1_S32x4096_n_0_n_n_0_2_1_wf x idx (ix2 i j)).trans ?_
  congr 1
  funext a
  obtain rfl : a = 0 := Subsingleton.elim _ _
  refine Fin.ext ?_
  have e : ValueIdx.takeIdx (R := 32) (C := 4096) (ix2 i j) = ix3 i j 0 := by
    funext b
    match b with
    | ⟨0, _⟩ => rfl
    | ⟨1, _⟩ => rfl
    | ⟨2, _⟩ => rfl
  show min (idx (ValueIdx.takeIdx (R := 32) (C := 4096) (ix2 i j))).toInt.toNat (4 - 1) = n.val
  rw [e, h]
  exact start_ofNat n

/-- The lookup of a row in a table of four rows, at a start index that is the word of `n`, is row `n`. -/
theorem gather_row {α : Type} (x : S4x256.Idx → α) (idx : IVec S32x8192x1 32) (i : Fin 32) (p : Fin 8192) (g : Fin 256)
    (n : Fin 4) (h : idx (ix3 i p 0) = BitVec.ofNat 32 n.val) :
    Host.gather gather_S4x256_S32x8192x1_S32x8192x256_2_0_n_n_0_2_1256 x idx (ix3 i p g) = x (ix2 n g) := by
  have key : gather_S4x256_S32x8192x1_S32x8192x256_2_0_n_n_0_2_1256.operandIdx (ix3 i p g) idx = ix2 n g := by
    have hs : ∀ q, gather_S4x256_S32x8192x1_S32x8192x256_2_0_n_n_0_2_1256.siIdx (ix3 i p g) q = ix3 i p 0 := by
      intro q
      funext b
      refine Fin.ext ?_
      match b with
      | ⟨0, _⟩ => rfl
      | ⟨1, _⟩ => rfl
      | ⟨2, _⟩ =>
        have := (gather_S4x256_S32x8192x1_S32x8192x256_2_0_n_n_0_2_1256.siIdx (ix3 i p g) q ⟨2, by decide⟩).isLt
        exact Nat.lt_one_iff.mp this
    funext a
    refine Fin.ext ?_
    show GatherDims.start _ _ idx a + GatherDims.batchCoord _ _ a + GatherDims.offCoord _ _ a = _
    rw [GatherDims.batchCoord_eq_zero _ _ _ List.not_mem_nil, Nat.add_zero]
    match a with
    | ⟨0, _⟩ =>
      rw [GatherDims.offCoord_eq_zero _ _ _ (fun h => ((GatherDims.mem_sKept _ _).mp h).1 (List.mem_singleton.mpr rfl)),
        Nat.add_zero]
      unfold GatherDims.start
      have hm : (⟨0, by decide⟩ : Fin S4x256.rank) ∈ gather_S4x256_S32x8192x1_S32x8192x256_2_0_n_n_0_2_1256.startIndexMap :=
        List.mem_singleton.mpr rfl
      rw [dif_pos hm, hs, h]
      exact start_ofNat n
    | ⟨1, _⟩ =>
      unfold GatherDims.start
      have hm : (⟨1, by decide⟩ : Fin S4x256.rank) ∉ gather_S4x256_S32x8192x1_S32x8192x256_2_0_n_n_0_2_1256.startIndexMap :=
        fun h => absurd (congrArg Fin.val (List.mem_singleton.mp h)) (by decide)
      rw [dif_neg hm, Nat.zero_add]
      rfl
  exact congrArg x key

/-- Every type word is one of the two real types. -/
abbrev InRange (A : IVec S32x4096 32) : Prop := ∀ (i : Fin 32) (j : Fin 4096), A (ix2 i j) = 0#32 ∨ A (ix2 i j) = 1#32

/-- The reference's scale of every atom. -/
def scaleR (A : IVec S32x4096 32) : FVec Ideal S32x4096x1 .f32 :=
  shapeCast S32x4096x1 (Host.gather gather_S4_S32x4096x1_S32x4096_n_0_n_n_0_2_1 (fun i => FloatOps.ofBits (F := Ideal) .f32 (lit0 (S4.rowMajor i)))
    (broadcastInDim S32x4096x1 ![0, 1] bcast_S32x4096_S32x4096x1_0_1
      (select (cmpi .slt A (broadcastInDim S32x4096 ![] bcast_S_S32x4096 (constantI S_ 32 0#32)))
        (addi A (broadcastInDim S32x4096 ![] bcast_S_S32x4096 (constantI S_ 32 4#32))) A)))
    shapeCasts_S32x4096_S32x4096x1

/-- The positions of the real atoms and, behind them, of the virtual ones. -/
def coordR (C S : FVec Ideal S32x4096x3 .f32) (A : IVec S32x4096 32) : FVec Ideal S32x8192x3 .f32 :=
  concatenate S32x8192x3 1 [⟨S32x4096x3, C⟩, ⟨S32x4096x3, addf C (mulf S
    (broadcastInDim S32x4096x3 ![0, 1, 2] bcast_S32x4096x1_S32x4096x3_0_1_2 (scaleR A)))⟩]
    concatenates_S32x4096x3_S32x4096x3_S32x8192x3_d1

/-- The type words of the real atoms and, behind them, of the virtual ones. -/
def typeR (A : IVec S32x4096 32) : IVec S32x8192 32 :=
  concatenate S32x8192 1 [⟨S32x4096, A⟩, ⟨S32x4096, addi A (broadcastInDim S32x4096 ![] bcast_S_S32x4096 (constantI S_ 32 2#32))⟩]
    concatenates_S32x4096_S32x4096_S32x8192_d1

/-- The type embeddings of all the atoms. -/
def embedR (T : FVec Ideal S4x256 .f32) (A : IVec S32x4096 32) : FVec Ideal S32x8192x256 .f32 :=
  Host.gather gather_S4x256_S32x8192x1_S32x8192x256_2_0_n_n_0_2_1256 T
    (broadcastInDim S32x8192x1 ![0, 1] bcast_S32x8192_S32x8192x1_0_1
      (select (cmpi .slt (typeR A) (broadcastInDim S32x8192 ![] bcast_S_S32x8192 (constantI S_ 32 0#32)))
        (addi (typeR A) (broadcastInDim S32x8192 ![] bcast_S_S32x8192 (constantI S_ 32 4#32))) (typeR A)))

/-- The backbone's outputs for all the atoms. -/
def outR (C S : FVec Ideal S32x4096x3 .f32) (A : IVec S32x4096 32) (W1 : FVec Ideal S3x256 .f32) (T : FVec Ideal S4x256 .f32)
    (W2 : FVec Ideal S256x256 .f32) (W3 : FVec Ideal S256x3 .f32) : FVec Ideal S32x8192x3 .f32 :=
  Host.dotGeneral dot_S32x8192x256_S256x3_S32x8192x3_2_0_01_1_n_n none
    (Host.tanh (Host.dotGeneral dot_S32x8192x256_S256x256_S32x8192x256_2_0_01_1_n_n none
      (Host.tanh (addf (Host.dotGeneral dot_S32x8192x3_S3x256_S32x8192x256_2_0_01_1_n_n none (coordR C S A) W1)
        (embedR T A))) W2)) W3

/-- The scale of atom `(i, j)` is that of its type word. -/
theorem scaleR_at (A : IVec S32x4096 32) (hA : InRange A) (i : Fin 32) (j : Fin 4096) :
    scaleR A (ix3 i j 0) = Row.scale (A (ix2 i j)) := by
  have key : ∀ n : Fin 4, A (ix2 i j) = BitVec.ofNat 32 n.val →
      scaleR A (ix3 i j 0) = FloatOps.ofBits (F := Ideal) .f32 (lit0 (S4.rowMajor (ix1 n))) := by
    intro n hn
    pointwise [scaleR]
    refine gather_entry _ _ i j n ?_
    pointwise []
    rw [hn]
    exact wrap_ofNat n
  rcases hA i j with h | h
  · rw [key 0 h, h, Row.scale_zero]; rfl
  · rw [key 1 h, h, Row.scale_one]; rfl

/-- The position of real atom `(i, j)`. -/
theorem coordR_real (C S : FVec Ideal S32x4096x3 .f32) (A : IVec S32x4096 32) (i : Fin 32) (j : Fin 4096) (d : Fin 3)
    (p : Fin 8192) (hp : p.val = j.val) : coordR C S A (ix3 i p d) = C (ix3 i j d) := by
  pointwise [coordR]
  rw [dif_pos (by omega)]
  congr 2
  exact Fin.ext hp

/-- The position of virtual atom `(i, j)`. -/
theorem coordR_virt (C S : FVec Ideal S32x4096x3 .f32) (A : IVec S32x4096 32) (hA : InRange A) (i : Fin 32) (j : Fin 4096)
    (d : Fin 3) (p : Fin 8192) (hp : p.val = 4096 + j.val) :
    coordR C S A (ix3 i p d) = C (ix3 i j d) + S (ix3 i j d) * Row.scale (A (ix2 i j)) := by
  rw [← scaleR_at A hA i j]
  pointwise [coordR]
  rw [dif_neg (by omega)]
  have e : (⟨p.val - 4096, by omega⟩ : Fin 4096) = j := Fin.ext (by simp [hp])
  rw [e]

/-- The type word of real atom `(i, j)`. -/
theorem typeR_real (A : IVec S32x4096 32) (i : Fin 32) (j : Fin 4096) (p : Fin 8192) (hp : p.val = j.val) :
    typeR A (ix2 i p) = A (ix2 i j) := by
  pointwise [typeR]
  rw [dif_pos (by omega)]
  congr 2
  exact Fin.ext hp

/-- The type word of virtual atom `(i, j)`. -/
theorem typeR_virt (A : IVec S32x4096 32) (i : Fin 32) (j : Fin 4096) (p : Fin 8192) (hp : p.val = 4096 + j.val) :
    typeR A (ix2 i p) = IntOp.addi (A (ix2 i j)) 2#32 := by
  pointwise [typeR]
  rw [dif_neg (by omega)]
  have e : (⟨p.val - 4096, by omega⟩ : Fin 4096) = j := Fin.ext (by simp [hp])
  rw [e]

/-- Where the type word is one of the four places, the embedding is that of the word. -/
theorem embedR_at (T : FVec Ideal S4x256 .f32) (A : IVec S32x4096 32) (i : Fin 32) (p : Fin 8192) (g : Fin 256) (n : Fin 4)
    (h : typeR A (ix2 i p) = BitVec.ofNat 32 n.val) :
    embedR T A (ix3 i p g) = Row.embed T (typeR A (ix2 i p)) g := by
  rw [h, Row.embed_ofNat]
  refine gather_row _ _ i p g n ?_
  pointwise []
  rw [h]
  exact wrap_ofNat n

/-- The outputs at atom `(i, p)` of all the atoms: the backbone on its position and its embedding. -/
theorem outR_at (C S : FVec Ideal S32x4096x3 .f32) (A : IVec S32x4096 32) (W1 : FVec Ideal S3x256 .f32) (T : FVec Ideal S4x256 .f32)
    (W2 : FVec Ideal S256x256 .f32) (W3 : FVec Ideal S256x3 .f32) (i : Fin 32) (p : Fin 8192) (k : Fin 3) :
    outR C S A W1 T W2 W3 (ix3 i p k)
      = Row.net W1 W2 W3 (fun d => coordR C S A (ix3 i p d)) (fun g => embedR T A (ix3 i p g)) k := by
  pointwise [outR, Row.net]

/-- The outputs at real atom `(i, j)`. -/
theorem outR_real (C S : FVec Ideal S32x4096x3 .f32) (A : IVec S32x4096 32) (hA : InRange A) (W1 : FVec Ideal S3x256 .f32)
    (T : FVec Ideal S4x256 .f32) (W2 : FVec Ideal S256x256 .f32) (W3 : FVec Ideal S256x3 .f32) (i : Fin 32) (j : Fin 4096)
    (p : Fin 8192) (hp : p.val = j.val) (k : Fin 3) :
    outR C S A W1 T W2 W3 (ix3 i p k)
      = Row.net W1 W2 W3 (fun d => C (ix3 i j d)) (Row.embed T (A (ix2 i j))) k := by
  have hx : (fun d => coordR C S A (ix3 i p d)) = fun d => C (ix3 i j d) :=
    funext fun d => coordR_real C S A i j d p hp
  have ht := typeR_real A i j p hp
  have he : (fun g => embedR T A (ix3 i p g)) = Row.embed T (A (ix2 i j)) := by
    funext g
    rcases hA i j with h | h
    · rw [embedR_at T A i p g 0 (ht.trans h), ht]
    · rw [embedR_at T A i p g 1 (ht.trans h), ht]
  rw [outR_at, hx, he]

/-- The outputs at virtual atom `(i, j)`. -/
theorem outR_virt (C S : FVec Ideal S32x4096x3 .f32) (A : IVec S32x4096 32) (hA : InRange A) (W1 : FVec Ideal S3x256 .f32)
    (T : FVec Ideal S4x256 .f32) (W2 : FVec Ideal S256x256 .f32) (W3 : FVec Ideal S256x3 .f32) (i : Fin 32) (j : Fin 4096)
    (p : Fin 8192) (hp : p.val = 4096 + j.val) (k : Fin 3) :
    outR C S A W1 T W2 W3 (ix3 i p k)
      = Row.net W1 W2 W3 (fun d => C (ix3 i j d) + S (ix3 i j d) * Row.scale (A (ix2 i j)))
          (Row.embed T (IntOp.addi (A (ix2 i j)) 2#32)) k := by
  have hx : (fun d => coordR C S A (ix3 i p d)) = fun d => C (ix3 i j d) + S (ix3 i j d) * Row.scale (A (ix2 i j)) :=
    funext fun d => coordR_virt C S A hA i j d p hp
  have ht := typeR_virt A i j p hp
  have he : (fun g => embedR T A (ix3 i p g)) = Row.embed T (IntOp.addi (A (ix2 i j)) 2#32) := by
    funext g
    rcases hA i j with h | h
    · rw [embedR_at T A i p g 2 (by rw [ht, h]; decide), ht]
    · rw [embedR_at T A i p g 3 (by rw [ht, h]; decide), ht]
  rw [outR_at, hx, he]

/-- The first result at `(i, j, k)`. -/
theorem real_at (C S : FVec Ideal S32x4096x3 .f32) (A : IVec S32x4096 32) (hA : InRange A) (W1 : FVec Ideal S3x256 .f32)
    (T : FVec Ideal S4x256 .f32) (W2 : FVec Ideal S256x256 .f32) (W3 : FVec Ideal S256x3 .f32) (i : Fin 32) (j : Fin 4096) (k : Fin 3) :
    addf (extractStridedSlice S32x4096x3 ![0, 0, 0] (outR C S A W1 T W2 W3) slices_S32x8192x3_S32x4096x3_0_0_0)
      (extractStridedSlice S32x4096x3 ![0, 4096, 0] (outR C S A W1 T W2 W3) slices_S32x8192x3_S32x4096x3_0_4096_0) (ix3 i j k)
      = Row.net W1 W2 W3 (fun d => C (ix3 i j d)) (Row.embed T (A (ix2 i j))) k
        + Row.net W1 W2 W3 (fun d => C (ix3 i j d) + S (ix3 i j d) * Row.scale (A (ix2 i j)))
          (Row.embed T (IntOp.addi (A (ix2 i j)) 2#32)) k := by
  rw [← outR_real C S A hA W1 T W2 W3 i j ⟨j.val, by omega⟩ rfl k,
    ← outR_virt C S A hA W1 T W2 W3 i j ⟨4096 + j.val, by omega⟩ rfl k]
  pointwise []

/-- The second result at `(i, j, k)`. -/
theorem mag_at (C S : FVec Ideal S32x4096x3 .f32) (A : IVec S32x4096 32) (hA : InRange A) (W1 : FVec Ideal S3x256 .f32)
    (T : FVec Ideal S4x256 .f32) (W2 : FVec Ideal S256x256 .f32) (W3 : FVec Ideal S256x3 .f32) (i : Fin 32) (j : Fin 4096) (k : Fin 3) :
    mulf (extractStridedSlice S32x4096x3 ![0, 4096, 0] (outR C S A W1 T W2 W3) slices_S32x8192x3_S32x4096x3_0_4096_0)
      (broadcastInDim S32x4096x3 ![0, 1, 2] bcast_S32x4096x1_S32x4096x3_0_1_2 (scaleR A)) (ix3 i j k)
      = Row.net W1 W2 W3 (fun d => C (ix3 i j d) + S (ix3 i j d) * Row.scale (A (ix2 i j)))
          (Row.embed T (IntOp.addi (A (ix2 i j)) 2#32)) k * Row.scale (A (ix2 i j)) := by
  rw [← outR_virt C S A hA W1 T W2 W3 i j ⟨4096 + j.val, by omega⟩ rfl k, ← scaleR_at A hA i j]
  pointwise []

/-- The third result at `(i, j, 0)`. -/
theorem mask_at (A : IVec S32x4096 32) (hA : InRange A) (i : Fin 32) (j : Fin 4096) :
    cmpf .ogt (scaleR A) (broadcastInDim S32x4096x1 ![] bcast_S_S32x4096x1 (constant S_ .f32 0#32)) (ix3 i j 0)
      = FloatOps.cmpf (F := Ideal) (φ := .f32) .ogt (Row.scale (A (ix2 i j))) 0 := by
  rw [← scaleR_at A hA i j]
  pointwise []

/-- The reference's first result. -/
def realR (C S : FVec Ideal S32x4096x3 .f32) (A : IVec S32x4096 32) (W1 : FVec Ideal S3x256 .f32) (T : FVec Ideal S4x256 .f32)
    (W2 : FVec Ideal S256x256 .f32) (W3 : FVec Ideal S256x3 .f32) : FVec Ideal S32x4096x3 .f32 :=
  addf (extractStridedSlice S32x4096x3 ![0, 0, 0] (outR C S A W1 T W2 W3) slices_S32x8192x3_S32x4096x3_0_0_0)
    (extractStridedSlice S32x4096x3 ![0, 4096, 0] (outR C S A W1 T W2 W3) slices_S32x8192x3_S32x4096x3_0_4096_0)

/-- The reference's second result. -/
def magR (C S : FVec Ideal S32x4096x3 .f32) (A : IVec S32x4096 32) (W1 : FVec Ideal S3x256 .f32) (T : FVec Ideal S4x256 .f32)
    (W2 : FVec Ideal S256x256 .f32) (W3 : FVec Ideal S256x3 .f32) : FVec Ideal S32x4096x3 .f32 :=
  mulf (extractStridedSlice S32x4096x3 ![0, 4096, 0] (outR C S A W1 T W2 W3) slices_S32x8192x3_S32x4096x3_0_4096_0)
    (broadcastInDim S32x4096x3 ![0, 1, 2] bcast_S32x4096x1_S32x4096x3_0_1_2 (scaleR A))

/-- The reference's third result. -/
def maskR (A : IVec S32x4096 32) : IVec S32x4096x1 1 :=
  cmpf .ogt (scaleR A) (broadcastInDim S32x4096x1 ![] bcast_S_S32x4096x1 (constant S_ .f32 0#32))

open Cert.ReferenceIdeal.Value in
/-- The reference's run, its three results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = realR (m ((c.tc : Thread nD τ).loc main_arg0)) (m ((c.tc : Thread nD τ).loc main_arg2))
        (m ((c.tc : Thread nD τ).loc main_arg1)) (m ((c.tc : Thread nD τ).loc main_arg4)) (m ((c.tc : Thread nD τ).loc main_arg3))
        (m ((c.tc : Thread nD τ).loc main_arg5)) (m ((c.tc : Thread nD τ).loc main_arg6))
      ∧ r.2.mem ((c.tc : Thread nD τ).loc main_v33) = magR (m ((c.tc : Thread nD τ).loc main_arg0)) (m ((c.tc : Thread nD τ).loc main_arg2))
        (m ((c.tc : Thread nD τ).loc main_arg1)) (m ((c.tc : Thread nD τ).loc main_arg4)) (m ((c.tc : Thread nD τ).loc main_arg3))
        (m ((c.tc : Thread nD τ).loc main_arg5)) (m ((c.tc : Thread nD τ).loc main_arg6))
      ∧ r.2.mem ((c.tc : Thread nD τ).loc main_v35) = maskR (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (Value.run m ρ) fun _ h c => ⟨(h c).1.trans (by
      unfold res_main_v30 realR outR embedR typeR coordR scaleR; rfl),
    (h c).2.1.trans (by unfold magR outR embedR typeR coordR scaleR; rfl),
    (h c).2.2.1.trans (by unfold maskR scaleR; rfl), (h c).2.2.2⟩

end Cert.ReferenceIdeal.At

end
-- ==== Proof.Pre.lean ====
/- What the precondition says of the type words. -/
module

public import proofs.«01_k».proof.Defs
public import proofs.«01_k».proof.Proof.Gen.Pre_types_in_range
public import Idealize.ShloMosaic.Lib.Claim
public import Idealize.ShloMosaic.Lib.ReduceAll
public import Idealize.ShloMosaic.Lib.Pipeline.ValueKit

@[expose] public section

set_option maxRecDepth 16384

noncomputable section

open Idealize.ShloMosaic Idealize.ShloMosaic.TcCoe Idealize.SL.Sem

namespace Cert.Pre_types_in_range.At

open Cert.Pre_types_in_range Cert.Pre_types_in_range.Gen

/-- A word that is at least 0 and below 2, both read signed, is 0 or 1. -/
theorem zero_or_one (a : BitVec 32) (h : IntOp.andi (IntOp.cmpi .sge a 0#32) (IntOp.cmpi .slt a 2#32) = 1#1) :
    a = 0#32 ∨ a = 1#32 := by
  obtain ⟨h0, h1⟩ := IntOp.andi_eq_one.1 h
  have h0 := IntOp.cmpi_sge.1 h0
  have h1 := IntOp.cmpi_slt.1 h1
  have e0 : (0#32 : BitVec 32).toInt = 0 := by decide
  have e2 : (2#32 : BitVec 32).toInt = 2 := by decide
  have e1 : (1#32 : BitVec 32).toInt = 1 := by decide
  rcases (show a.toInt = 0 ∨ a.toInt = 1 by omega) with h | h
  · exact .inl (BitVec.eq_of_toInt_eq (h.trans e0.symm))
  · exact .inr (BitVec.eq_of_toInt_eq (h.trans e1.symm))

/-- Under the precondition every type word is 0 or 1. -/
theorem in_range (C S : FVec Ideal S32x4096x3 .f32) (A : IVec S32x4096 32) (T : FVec Ideal S4x256 .f32) (W1 : FVec Ideal S3x256 .f32)
    (W2 : FVec Ideal S256x256 .f32) (W3 : FVec Ideal S256x3 .f32) (h : fn (F := Ideal) C A S T W1 W2 W3 = fun _ => 1#1)
    (i : Fin 32) (j : Fin 4096) : A (ix2 i j) = 0#32 ∨ A (ix2 i j) = 1#32 := by
  have : Subsingleton S_.Idx := ⟨fun a b => funext fun k => k.elim0⟩
  exact zero_or_one _ (Host.reduce_andi_all _ _ _ _ ix0 (congrFun h ix0) (ix2 i j))

end Cert.Pre_types_in_range.At

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_types_in_range
public import proofs.«01_k».proof.Proof.Results
public import proofs.«01_k».proof.Proof.Ref
public import proofs.«01_k».proof.Proof.Pre
public import Idealize.ShloMosaic.Adequacy
public import Idealize.ShloMosaic.Init
public import Idealize.ShloMosaic.Lib.Claim
public import Idealize.ShloMosaic.Lib.Pipeline.ValueKit

@[expose] public section

set_option maxRecDepth 16384

noncomputable section

namespace Cert.Proof

open Idealize.ShloMosaic Idealize.ShloMosaic.TcCoe Idealize.SL.Sem

/-- The kernel, at machine arithmetic: every run ends, its arguments unchanged and every counter at zero. -/
theorem frame_p : Cert.quiescent_Kernel := fun m ρ _ => Cert.Kernel.Gen.frame m ρ

/-- The same of the kernel at exact arithmetic. -/
theorem frame_pi : Cert.quiescent_KernelIdeal := fun m ρ _ => Cert.KernelIdeal.Gen.frame m ρ

/-- The same of the reference. -/
theorem frame_ri : Cert.quiescent_ReferenceIdeal := by
  intro m g _
  refine θ_run_mono (Cert.ReferenceIdeal.Value.run m g) fun r h => ⟨fun c => (h c).2.2.2, ?_⟩
  exact sem_eq_zero_of_no_sems (by decide) _

open Cert.KernelIdeal in
/-- The precondition on the kernel's memory, as a fact of its type words. -/
theorem in_range (m : (ℓ : Loc nD τ sig) → Buf (Elt Ideal) ℓ) (h : Pre_KernelIdeal_types_in_range m) (c : Dev nD) :
    Cert.ReferenceIdeal.At.InRange (m ((c : Thread nD τ).loc main_arg1)) :=
  fun i j => Cert.Pre_types_in_range.At.in_range _ _ _ _ _ _ _ (h c) i j

/-- The value claim: from agreeing arguments whose types are in range, the kernel's three results are the reference's. -/
theorem algebraic : Cert.algebraic_KernelIdeal_ReferenceIdeal_pre_types_in_range := by
  pair_intro
  · run_from Cert.KernelIdeal.Gen.run_main m g & Cert.KernelIdeal.Gen.unchanged m g
  · run_from Cert.ReferenceIdeal.At.run m' g'
    · rw [Cert.KernelIdeal.Value.out4]
      funext x
      obtain ⟨i, j, k, rfl⟩ : ∃ (i : Fin 32) (j : Fin 4096) (k : Fin 3), x = ix3 i j k := ⟨x 0, x 1, x 2, eq_ix3 x⟩
      refine Eq.trans ?_ (Cert.KernelIdeal.Value.real_at _ _ _ _ _ _ _ i j k).symm
      exact Cert.ReferenceIdeal.At.real_at _ _ _ (in_range m hpre c) _ _ _ _ i j k
    · rw [Cert.KernelIdeal.Value.out5]
      funext x
      obtain ⟨i, j, k, rfl⟩ : ∃ (i : Fin 32) (j : Fin 4096) (k : Fin 3), x = ix3 i j k := ⟨x 0, x 1, x 2, eq_ix3 x⟩
      refine Eq.trans ?_ (Cert.KernelIdeal.Value.mag_at _ _ _ _ _ _ _ i j k).symm
      exact Cert.ReferenceIdeal.At.mag_at _ _ _ (in_range m hpre c) _ _ _ _ i j k
    · rw [Cert.KernelIdeal.Value.out8]
      funext x
      obtain ⟨i, j, rfl⟩ : ∃ (i : Fin 32) (j : Fin 4096), x = ix3 i j 0 :=
        ⟨x 0, x 1, (eq_ix3 x).trans (congrArg (ix3 (x 0) (x 1)) (Subsingleton.elim (α := Fin 1) _ _))⟩
      refine Eq.trans ?_ (Cert.KernelIdeal.Value.mask_at _ i j).symm
      exact Cert.ReferenceIdeal.At.mask_at _ (in_range m hpre c) i j

/-- All the claims. -/
theorem claim : Cert.Claim := ⟨Cert.Kernel.Gen.facts, Cert.KernelIdeal.Gen.facts, Cert.ReferenceIdeal.Gen.facts, Cert.Pre_types_in_range.Gen.facts,
  frame_p, frame_pi, fun m ρ _ => frame_pi m ρ trivial, frame_ri, fun m ρ _ => frame_ri m ρ trivial, trivial, algebraic⟩

end Cert.Proof

end
